-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "log_alpha" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1000x8x1024 : Shape := ⟨3, ![1000, 8, 1024]⟩
abbrev S8x1000x1024 : Shape := ⟨3, ![8, 1000, 1024]⟩
abbrev S4096x1000 : Shape := ⟨2, ![4096, 1000]⟩
abbrev S512x1024 : Shape := ⟨2, ![512, 1024]⟩
abbrev S1x1000x1024 : Shape := ⟨3, ![1, 1000, 1024]⟩
abbrev S512x1000 : Shape := ⟨2, ![512, 1000]⟩
abbrev S1000x1024 : Shape := ⟨2, ![1000, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1000x8x1024, .f32⟩
  | .hbm, ⟨2, _⟩ => ⟨S8x1000x1024, .f32⟩
  | .hbm, ⟨3, _⟩ => ⟨S8x1000x1024, .bf16⟩
  | .hbm, ⟨4, _⟩ => ⟨S4096x1024, .bf16⟩
  | .hbm, ⟨5, _⟩ => ⟨S4096x1000, .f32⟩
  | .local _ .vmem, ⟨0, _⟩ => ⟨S512x1024, .bf16⟩
  | .local _ .vmem, ⟨1, _⟩ => ⟨S512x1024, .bf16⟩
  | .local _ .vmem, ⟨2, _⟩ => ⟨S1x1000x1024, .bf16⟩
  | .local _ .vmem, ⟨3, _⟩ => ⟨S1x1000x1024, .bf16⟩
  | .local _ .vmem, ⟨4, _⟩ => ⟨S512x1000, .f32⟩
  | .local _ .vmem, ⟨5, _⟩ => ⟨S512x1000, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v11 : BitVec 1 := Scalar.cmpi .eq arg1 c0_i32
  let v12 : BitVec 32 := Scalar.extui v11
  let c0_i32_7 : BitVec 32 := 0#32
  let v13 : BitVec 1 := Scalar.cmpi .ne v12 c0_i32_7
  v13

def k0_cond2 (i : grid0.Coords) : BitVec 1 :=
  let arg1 : BitVec 32 := BitVec.ofNat 32 (i 1).val
  let c0_i32_8 : BitVec 32 := 0#32
  let v14 : BitVec 1 := Scalar.cmpi .ne arg1 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1000x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== KernelIdeal.lean ====
variable {F : FTy → Type} [FloatOps F] [Named F]
def κ : String → Option EReal := fun
  | "log_alpha" => some ((Real.log 2 : ℝ) : EReal)
  | _ => none
-- ==== ReferenceIdeal.lean ====
abbrev S4096x1024 : Shape := ⟨2, ![4096, 1024]⟩
abbrev S1000x8x1024 : Shape := ⟨3, ![1000, 8, 1024]⟩
abbrev S1024x4096 : Shape := ⟨2, ![1024, 4096]⟩
abbrev S1000x8x4096 : Shape := ⟨3, ![1000, 8, 4096]⟩
abbrev S4096x1000x8 : Shape := ⟨3, ![4096, 1000, 8]⟩
abbrev S_ : Shape := ⟨0, ![]⟩
abbrev S4096x1000 : Shape := ⟨2, ![4096, 1000]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1000x8x1024, .f32⟩
  | .hbm, ⟨2, _⟩ => ⟨S1024x4096, .f32⟩
  | .hbm, ⟨3, _⟩ => ⟨S1000x8x4096, .f32⟩
  | .hbm, ⟨4, _⟩ => ⟨S4096x1000x8, .f32⟩
  | .hbm, ⟨5, _⟩ => ⟨S_, .f32⟩
  | .hbm, ⟨6, _⟩ => ⟨S4096x1000x8, .f32⟩
  | .hbm, ⟨7, _⟩ => ⟨S4096x1000x8, .f32⟩
  | .hbm, ⟨8, _⟩ => ⟨S_, .f32⟩
  | .hbm, ⟨9, _⟩ => ⟨S4096x1000x8, .f32⟩
  | .hbm, ⟨10, _⟩ => ⟨S4096x1000x8, .f32⟩
  | .hbm, ⟨11, _⟩ => ⟨S4096x1000x8, .f32⟩
  | .hbm, ⟨12, _⟩ => ⟨S_, .f32⟩
  | .hbm, ⟨13, _⟩ => ⟨S4096x1000, .f32⟩
  | .hbm, ⟨14, _⟩ => ⟨S_, .f32⟩
  | .hbm, ⟨15, _⟩ => ⟨S4096x1000, .f32⟩
  | .hbm, ⟨16, _⟩ => ⟨S4096x1000, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proof.Logits.lean ====
/-
  The mathematics of the adapter's logits, on the extended reals and away from any program.

  For queries `x[b,d]` and stored keys `memory[k,s,d]` (class `k`, shot `s`) the affinity of a query and a key is
  `a = Σ_d x[b,d]·memory[k,s,d]`; the logits are `2·Σ_s exp(−5·(1 − a))`. The kernel keeps the factor 2 inside the
  exponential, as `exp(5·a + (log 2 − 5))`. This module defines both and proves them equal.
-/
module

public import Idealize.ShloMosaic.PureOps.Ideal.Laws
public import Idealize.ShloMosaic.Lib.ValueIdx

@[expose] public section

noncomputable section

namespace Cert.Logits

open Idealize.ShloMosaic Idealize.ShloMosaic.ValueIdx

/-- The queries: 4096 rows of 1024 features. -/
abbrev Queries : Type := (⟨2, ![4096, 1024]⟩ : Shape).Idx → EReal
/-- The stored keys: 1000 classes, 8 shots each, 1024 features. -/
abbrev Keys : Type := (⟨3, ![1000, 8, 1024]⟩ : Shape).Idx → EReal

/-- The affinity of query `b` and the key of class `k`, shot `s`: their inner product. -/
def affinity (x : Queries) (mem : Keys) (b : Fin 4096) (k : Fin 1000) (s : Fin 8) : EReal :=
  ∑ d : Fin 1024, x (ix2 b d) * mem (ix3 k s d)

/-- One shot's contribution as the kernel computes it: `exp(5·a + (log 2 − 5))`. -/
def folded (a : EReal) : EReal := Ideal.exp (5 * a + ((Real.log 2 : ℝ) - 5))

/-- One shot's contribution as the formula states it, before the factor 2: `exp(−5·(1 − a))`. -/
def plain (a : EReal) : EReal := Ideal.exp (-5 * (1 - a))

/-- An exponential of extended reals is never negative. -/
theorem exp_nonneg (a : EReal) : 0 ≤ Ideal.exp a := by
  induction a using EReal.rec with
  | bot => exact le_refl _
  | top => exact le_top
  | coe r => exact EReal.coe_nonneg.mpr (Real.exp_pos r).le

/-- Folding the factor 2 into the exponent: `exp(5·a + (log 2 − 5)) = 2·exp(−5·(1 − a))`, infinite `a` included. -/
theorem folded_eq (a : EReal) : folded a = 2 * plain a := by
  unfold folded plain
  have h5 : (5 : EReal) = ((5 : ℝ) : EReal) := rfl
  have h2 : (2 : EReal) = ((2 : ℝ) : EReal) := rfl
  have h1 : (1 : EReal) = ((1 : ℝ) : EReal) := rfl
  induction a using EReal.rec with
  | bot =>
    have hl : (5 : EReal) * ⊥ + ((Real.log 2 : ℝ) - 5) = ⊥ := by
      rw [h5, EReal.coe_mul_bot_of_pos (by norm_num), EReal.bot_add]
    have hr : (-5 : EReal) * (1 - ⊥) = ⊥ := by
      rw [h5, h1, EReal.coe_sub_bot, ← EReal.coe_neg, EReal.coe_mul_top_of_neg (by norm_num)]
    rw [hl, hr, Ideal.exp_bot, mul_zero]
  | top =>
    have hl : (5 : EReal) * ⊤ + ((Real.log 2 : ℝ) - 5) = ⊤ := by
      rw [h5, EReal.coe_mul_top_of_pos (by norm_num), ← EReal.coe_sub, EReal.top_add_coe]
    have hr : (-5 : EReal) * (1 - ⊤) = ⊤ := by
      rw [sub_eq_add_neg, EReal.neg_top, EReal.add_bot, h5, ← EReal.coe_neg, EReal.coe_mul_bot_of_neg (by norm_num)]
    rw [hl, hr, Ideal.exp_top, h2, EReal.coe_mul_top_of_pos (by norm_num)]
  | coe r =>
    rw [h5, h1, h2, ← EReal.coe_neg, ← EReal.coe_sub, ← EReal.coe_sub, ← EReal.coe_mul, ← EReal.coe_mul,
      ← EReal.coe_add, Ideal.exp_coe, Ideal.exp_coe, ← EReal.coe_mul]
    have e : 5 * r + (Real.log 2 - 5) = Real.log 2 + -5 * (1 - r) := by ring
    rw [e, Real.exp_add, Real.exp_log (by norm_num)]

/-- The factor 2 goes through a finite sum of terms none of which is negative. -/
theorem two_mul_sum {ι : Type} (f : ι → EReal) (hf : ∀ i, 0 ≤ f i) (S : Finset ι) :
    2 * ∑ i ∈ S, f i = ∑ i ∈ S, 2 * f i := by
  classical
  induction S using Finset.induction_on with
  | empty => simp
  | insert i S hi ih =>
    rw [Finset.sum_insert hi, Finset.sum_insert hi,
      EReal.left_distrib_of_nonneg (hf i) (Finset.sum_nonneg fun j _ => hf j), ih]

/-- The kernel's logits: the eight shots' contributions, each with its factor 2 inside the exponential. -/
def kernelLogits (x : Queries) (mem : Keys) (b : Fin 4096) (k : Fin 1000) : EReal :=
  ∑ s : Fin 8, folded (affinity x mem b k s)

/-- The formula's logits: twice the sum over the eight shots of `exp(−5·(1 − a))`. -/
def formulaLogits (x : Queries) (mem : Keys) (b : Fin 4096) (k : Fin 1000) : EReal :=
  2 * ∑ s : Fin 8, plain (affinity x mem b k s)

/-- The kernel's logits are the formula's, at every query and class and for all inputs. -/
theorem kernelLogits_eq (x : Queries) (mem : Keys) (b : Fin 4096) (k : Fin 1000) :
    kernelLogits x mem b k = formulaLogits x mem b k := by
  unfold kernelLogits formulaLogits
  rw [two_mul_sum (fun s => plain (affinity x mem b k s)) (fun s => exp_nonneg _)]
  exact Finset.sum_congr rfl fun s _ => folded_eq _

/-! ## The literals the two programs write -/

/-- The word `0x40A00000` is the number 5. -/
theorem word_five : Ideal.ofBits .f32 0x40A00000#32 = 5 := by
  have h : Ideal.ofBits .f32 0x40A00000#32 = ((5 : ℝ) : EReal) := by
    simp [Ideal.ofBits, Ideal.ieee, -EReal.coe_mul]; norm_num
  exact h
/-- The word `0xC0A00000` is the number −5. -/
theorem word_neg_five : Ideal.ofBits .f32 0xC0A00000#32 = -5 := by
  have h : Ideal.ofBits .f32 0xC0A00000#32 = ((-5 : ℝ) : EReal) := by
    simp [Ideal.ofBits, Ideal.ieee, -EReal.coe_mul]; norm_num
  exact h
/-- The word `0x3F800000` is the number 1. -/
theorem word_one : Ideal.ofBits .f32 0x3F800000#32 = 1 := by
  have h : Ideal.ofBits .f32 0x3F800000#32 = ((1 : ℝ) : EReal) := by
    simp [Ideal.ofBits, Ideal.ieee, -EReal.coe_mul]; norm_num
  exact h
/-- The word `0x40000000` is the number 2. -/
theorem word_two : Ideal.ofBits .f32 0x40000000#32 = 2 := by
  have h : Ideal.ofBits .f32 0x40000000#32 = ((2 : ℝ) : EReal) := by
    simp [Ideal.ofBits, Ideal.ieee, -EReal.coe_mul]; norm_num
  exact h

end Cert.Logits

end
-- ==== Proof.Block.lean ====
/-
  What the kernel's body leaves in the output's block at one grid point.

  The body has two cases: at a row block's first shot it stores the shot's contribution, at a later shot it adds the
  contribution to what is there. `first_out` and `later_out` read the two cases' stores back; `contribution_apply` reads the
  contribution at a row and a class: `exp(5·a + (log 2 − 5))` of the row's affinity with the class's key.
-/
module

public import proofs.«01_k».proof.Proof.Logits
public import proofs.«01_k».proof.Proof.Gen.KernelIdeal.Value
public import Idealize.ShloMosaic.Lib.MatmulPlain
public import Idealize.ShloMosaic.Lib.Pipeline.Value

@[expose] public section

set_option maxRecDepth 16384

noncomputable section

namespace Cert.KernelIdeal.Block

open Cert.KernelIdeal Cert.KernelIdeal.Gen Cert.Logits
open Idealize.ShloMosaic Idealize.ShloMosaic.TcCoe Idealize.ShloMosaic.ValueIdx Idealize.SL.Sem

/-- The offsets of a load or store of a whole rank-2 buffer are zero. -/
theorem off2 : (![0, 0] : Fin 2 → Nat) = fun _ => 0 := funext fun a => by fin_cases a <;> rfl
/-- The offsets of a load of a whole rank-3 buffer are zero. -/
theorem off3 : (![0, 0, 0] : Fin 3 → Nat) = fun _ => 0 := funext fun a => by fin_cases a <;> rfl

section Cases

variable {F : FTy → Type} [FloatOps F] [Named F]

/-- At a row block's first shot the output's block ends holding that shot's contribution. -/
theorem first_out (c : Dev nD) (i : grid0.Coords) (a2 : Memref sig .tc .vmem S512x1024 .bf16) (h2 : a2.IsWhole)
    (a3 : Memref sig .tc .vmem S1x1000x1024 .bf16) (h3 : a3.IsWhole) (a4 : Memref sig .tc .vmem S512x1000 .f32) (h4 : a4.IsWhole)
    (hc0 : cond0_0 i) (hc1 : ¬cond0_1 i) (q : Vec F S512x1024 .bf16) (key : Vec F S1x1000x1024 .bf16) :
    out0_A_2 c i a2 h2 a3 h3 a4 h4 hc0 hc1 q key = k0_pay1 q key := by
  unfold out0_A_2
  rw [View.read_writes_eq_canon _ _ _ (cover0_A_2 c i a2 h2 a3 h3 a4 h4 hc0 hc1 q key)]
  unfold kernelRun0_A
  dsimp only
  rw [View.canon_unit_zero off2]
  simp only [View.readAt_eq_ld, h2.read_unread, h3.read_unread, View.ld_unit_zero (S := S512x1024) off2,
    View.ld_unit_zero (S := S1x1000x1024) off3]

/-- At a later shot it ends holding what was there plus that shot's contribution. -/
theorem later_out (c : Dev nD) (i : grid0.Coords) (a2 : Memref sig .tc .vmem S512x1024 .bf16) (h2 : a2.IsWhole)
    (a3 : Memref sig .tc .vmem S1x1000x1024 .bf16) (h3 : a3.IsWhole) (a4 : Memref sig .tc .vmem S512x1000 .f32) (h4 : a4.IsWhole)
    (hc0 : ¬cond0_0 i) (hc1 : cond0_1 i) (q : Vec F S512x1024 .bf16) (key : Vec F S1x1000x1024 .bf16) (acc : Vec F S512x1000 .f32) :
    out0_B_2 c i a2 h2 a3 h3 a4 h4 hc0 hc1 q key acc = addf acc (k0_pay1 q key) := by
  unfold out0_B_2
  rw [View.read_writes_eq_canon _ _ _ (cover0_B_2 c i a2 h2 a3 h3 a4 h4 hc0 hc1 q key acc)]
  unfold kernelRun0_B
  dsimp only
  rw [View.canon_unit_zero off2]
  unfold k0_pay2
  simp only [View.readAt_eq_ld, h2.read_unread, h3.read_unread, h4.read_unread, View.ld_unit_zero (S := S512x1024) off2,
    View.ld_unit_zero (S := S1x1000x1024) off3, View.ld_unit_zero (S := S512x1000) off2, shapeCast_self]

end Cases

/-- The kernel's named constant is log 2. -/
theorem log_alpha : Named.named (F := Ideal) κ "log_alpha" (φ := .f32) 0x3F317218#32 = ((Real.log 2 : ℝ) : EReal) :=
  IdealRules.named_const.ideal_named_scalar _ _ _ _ rfl

/-- One shot's contribution at row `r` and class `k` of the block: `exp(5·a + (log 2 − 5))`, where `a` is the inner product of
    the block's row `r` with the shot's key of class `k`. -/
theorem contribution_apply (q : FVec Ideal S512x1024 .bf16) (key : FVec Ideal S1x1000x1024 .bf16) (r : Fin 512) (k : Fin 1000) :
    k0_pay1 (F := Ideal) q key (ix2 r k) = folded (∑ d : Fin 1024, q (ix2 r d) * key (ix3 0 k d)) := by
  have hm : FloatOps.matmul (F := Ideal) dot_S512x1024_S1000x1024_S512x1000_1_1_0_0_n_n none
        (shapeCast S512x1024 q shapeCasts_S512x1024_S512x1024) (shapeCast S1000x1024 key shapeCasts_S1x1000x1024_S1000x1024)
        (constant S512x1000 .f32 0x00000000#32) (ix2 r k) = ∑ d : Fin 1024, q (ix2 r d) * key (ix3 0 k d) := by
    refine (Ideal.matmul_transposedRhs_apply (M := 512) (K := 1024) (N := 1000) none _ _ _ r k).trans ?_
    rw [show constant (F := Ideal) S512x1000 .f32 0x00000000#32 (ix2 r k) = 0 from Ideal.ofBits_zero_f32, zero_add]
    refine Finset.sum_congr rfl fun d _ => ?_
    rw [shapeCast_self, shapeCast_dropUnit_apply (n := 2) ![1000, 1024] key _ (ix2 k d)]
    refine congrArg (fun z => q (ix2 r d) * key z) (funext fun a => ?_)
    match a with
    | ⟨0, _⟩ => rfl
    | ⟨1, _⟩ => rfl
    | ⟨2, _⟩ => rfl
  unfold k0_pay1 folded
  show Ideal.exp (Ideal.ofBits .f32 0x40A00000#32 * FloatOps.matmul (F := Ideal) _ _ _ _ _ _
    + (Named.named (F := Ideal) κ "log_alpha" (φ := .f32) 0x3F317218#32 - Ideal.ofBits .f32 0x40A00000#32)) = _
  rw [hm, log_alpha, word_five]

end Cert.KernelIdeal.Block

end
-- ==== Proof.Array.lean ====
/-
  What the kernel's result array holds after the run.

  Grid point `t` works on row block `t / 8` and shot `t % 8`. `queries_apply` and `keys_apply` say which entries of the two
  arguments the point's input blocks are; `running` says that after point `n` the output's block holds the sum of the shots
  `0 … n % 8`; at `n % 8 = 7` that block is written back, the written blocks cover the array, so `final` names the whole array.
-/
module

public import proofs.«01_k».proof.Proof.Block
public import Idealize.ShloMosaic.Lib.Pipeline.ValueKit

@[expose] public section

set_option maxRecDepth 16384

noncomputable section

namespace Cert.KernelIdeal.Array

open Cert.KernelIdeal Cert.KernelIdeal.Gen Cert.KernelIdeal.Block Cert.Logits
open Idealize.ShloMosaic hiding ix2 ix3 eq_ix2
open Idealize.ShloMosaic.TcCoe Idealize.ShloMosaic.ValueIdx Idealize.SL.Sem

variable (m : (ℓ : Loc nD τ sig) → Buf (Elt Ideal) ℓ)

/-- The queries the kernel is launched with. -/
abbrev xOf (c : Dev nD) : Queries := m ((c : Thread nD τ).loc main_arg0)
/-- The stored keys the kernel is launched with. -/
abbrev memOf (c : Dev nD) : Keys := m ((c : Thread nD τ).loc main_arg1)

/-! ## The arrays the kernel's windows read -/

/-- The array of window 0 is the queries: a narrowing cast changes nothing over the extended reals. -/
theorem cast_queries (c : Dev nD) (b : Fin 4096) (d : Fin 1024) :
    (V m c main_v2 : S4096x1024.Idx → EReal) (ix2 b d) = xOf m c (ix2 b d) := by
  have h : V m c main_v2 = (truncf .bf16 (m ((c : Thread nD τ).loc main_arg0) : FVec Ideal S4096x1024 .f32) bitsLt_bf16_f32
      : FVec Ideal S4096x1024 .bf16) := by
    unfold V hostOps0
    after_results
  rw [h]
  rfl

/-- The array of window 1 is the keys with the shot axis moved to the front. -/
theorem cast_keys (c : Dev nD) (s : Fin 8) (k : Fin 1000) (d : Fin 1024) :
    (V m c main_v1 : S8x1000x1024.Idx → EReal) (ix3 s k d) = memOf m c (ix3 k s d) := by
  have h : V m c main_v1 = (truncf .bf16 (transpose S8x1000x1024 [1, 0, 2]
      (m ((c : Thread nD τ).loc main_arg1) : FVec Ideal S1000x8x1024 .f32) transposes_S1000x8x1024_S8x1000x1024_1_0_2)
      bitsLt_bf16_f32 : FVec Ideal S8x1000x1024 .bf16) := by
    unfold V hostOps0
    after_results
  rw [h]
  show transpose S8x1000x1024 [1, 0, 2] (m ((c : Thread nD τ).loc main_arg1) : FVec Ideal S1000x8x1024 .f32)
    transposes_S1000x8x1024_S8x1000x1024_1_0_2 (ix3 s k d) = _
  exact transpose_apply [1, 0, 2] _ _ (ix3 s k d) (ix3 k s d) (fun b => match b with
    | ⟨0, _⟩ => rfl
    | ⟨1, _⟩ => rfl
    | ⟨2, _⟩ => rfl)

/-! ## The blocks of grid point `t` -/

/-- Window 0's block index at point `t`: row block `t / 8`. -/
theorem index_queries : ∀ t : Fin cfg0.N, win0_0.index t 0 = t.val / 8 ∧ win0_0.index t 1 = 0 :=
  (by decide +kernel : ∀ t : Fin grid0.N, win0_0.index t 0 = t.val / 8 ∧ win0_0.index t 1 = 0)
/-- Window 1's block index at point `t`: shot `t % 8`. -/
theorem index_keys : ∀ t : Fin cfg0.N, win0_1.index t 0 = t.val % 8 ∧ win0_1.index t 1 = 0 ∧ win0_1.index t 2 = 0 :=
  (by decide +kernel : ∀ t : Fin grid0.N, win0_1.index t 0 = t.val % 8 ∧ win0_1.index t 1 = 0 ∧ win0_1.index t 2 = 0)
/-- The output's block index at point `t`: row block `t / 8`. -/
theorem index_out : ∀ t : Fin cfg0.N, win0_2.index t 0 = t.val / 8 ∧ win0_2.index t 1 = 0 :=
  (by decide +kernel : ∀ t : Fin grid0.N, win0_2.index t 0 = t.val / 8 ∧ win0_2.index t 1 = 0)

/-- The query row that row `r` of row block `n / 8` is. -/
abbrev row (n : ℕ) (h : n < cfg0.N) (r : Fin 512) : Fin 4096 :=
  ⟨512 * (n / 8) + r.val, by have hN : cfg0.N = 64 := N_0; have := r.isLt; omega⟩

/-- Row `r` of the point's query block is query `512·(t / 8) + r`. -/
theorem queries_apply (c : Dev nD) (t : Fin cfg0.N) (r : Fin 512) (d : Fin 1024) :
    (iblk m c 0 t : S512x1024.Idx → EReal) (ix2 r d) = xOf m c (ix2 (row t.val t.isLt r) d) := by
  rw [← cast_queries]
  unfold iblk
  rw [View.read_apply]
  show V m c main_v2 _ = V m c main_v2 _
  refine congrArg (V m c main_v2) (funext fun a => Fin.ext ?_)
  match a with
  | ⟨0, _⟩ => show win0_0.index t 0 * 512 + 1 * r.val = 512 * (t.val / 8) + r.val; rw [(index_queries t).1]; omega
  | ⟨1, _⟩ => show win0_0.index t 1 * 1024 + 1 * d.val = d.val; rw [(index_queries t).2]; omega

/-- The point's key block holds, for every class, the key of shot `t % 8`. -/
theorem keys_apply (c : Dev nD) (t : Fin cfg0.N) (k : Fin 1000) (d : Fin 1024) :
    (iblk m c 1 t : S1x1000x1024.Idx → EReal) (ix3 0 k d) = memOf m c (ix3 k (Fin.ofNat 8 t.val) d) := by
  rw [← cast_keys]
  unfold iblk
  rw [View.read_apply]
  show V m c main_v1 _ = V m c main_v1 _
  refine congrArg (V m c main_v1) (funext fun a => Fin.ext ?_)
  match a with
  | ⟨0, _⟩ => show win0_1.index t 0 * 1 + 1 * 0 = t.val % 8; rw [(index_keys t).1]; omega
  | ⟨1, _⟩ => show win0_1.index t 1 * 1000 + 1 * k.val = k.val; rw [(index_keys t).2.1]; omega
  | ⟨2, _⟩ => show win0_1.index t 2 * 1024 + 1 * d.val = d.val; rw [(index_keys t).2.2]; omega

/-- The contribution point `t` computes, at row `r` and class `k` of its block. -/
theorem point_apply (c : Dev nD) (t : Fin cfg0.N) (r : Fin 512) (k : Fin 1000) :
    k0_pay1 (F := Ideal) (iblk m c 0 t) (iblk m c 1 t) (ix2 r k)
      = folded (affinity (xOf m c) (memOf m c) (row t.val t.isLt r) k (Fin.ofNat 8 t.val)) := by
  refine (contribution_apply _ _ r k).trans (congrArg folded ?_)
  unfold affinity
  exact Finset.sum_congr rfl fun d _ => congrArg₂ (· * ·) (queries_apply m c t r d) (keys_apply m c t k d)

/-! ## The accumulation over a row block's shots -/

/-- After point `n` the output's block holds, at row `r` and class `k`, the sum of the contributions of the shots `0 … n % 8`. -/
theorem running (c : Dev nD) : ∀ (n : ℕ) (h : n < cfg0.N) (r : Fin 512) (k : Fin 1000),
    (outsAt0 m c n h : S512x1000.Idx → EReal) (ix2 r k)
      = ∑ s ∈ Finset.range (n % 8 + 1), folded (affinity (xOf m c) (memOf m c) (row n h r) k (Fin.ofNat 8 s)) := by
  intro n
  induction n with
  | zero =>
    intro h r k
    rw [outsAt0_A m c ⟨0, h⟩ rfl (by simp), first_out, point_apply]
    simp
  | succ n ih =>
    intro h r k
    by_cases h0 : (n + 1) % 8 = 0
    · rw [outsAt0_A m c ⟨n + 1, h⟩ h0 (by dsimp only; omega), first_out, point_apply]
      have e : (Fin.ofNat 8 (n + 1) : Fin 8) = Fin.ofNat 8 0 := Fin.ext (by simpa using h0)
      rw [h0, zero_add, Finset.sum_range_one]
      exact congrArg (fun s => folded (affinity (xOf m c) (memOf m c) (row (n + 1) h r) k s)) e
    · have hn : n < cfg0.N := Nat.lt_of_succ_lt h
      rw [outsAt0_B m c ⟨n + 1, h⟩ h0 (by dsimp only; omega), later_out]
      show (outsAt0 m c n hn : S512x1000.Idx → EReal) (ix2 r k)
        + k0_pay1 (F := Ideal) (iblk m c 0 ⟨n + 1, h⟩) (iblk m c 1 ⟨n + 1, h⟩) (ix2 r k) = _
      rw [ih hn r k, point_apply, Finset.sum_range_succ _ ((n + 1) % 8)]
      have e1 : n % 8 + 1 = (n + 1) % 8 := by omega
      have e2 : row n hn r = row (n + 1) h r := Fin.ext (by show 512 * (n / 8) + r.val = 512 * ((n + 1) / 8) + r.val; omega)
      have e3 : (Fin.ofNat 8 (n + 1) : Fin 8) = Fin.ofNat 8 ((n + 1) % 8) := Fin.ext (by simp)
      rw [e1, e2]
      exact congrArg (fun s => _ + folded (affinity (xOf m c) (memOf m c) (row (n + 1) h r) k s)) e3

/-- So at a row block's last point it holds the kernel's logits of the block's queries. -/
theorem last (c : Dev nD) (t : Fin cfg0.N) (h7 : t.val % 8 = 7) (r : Fin 512) (k : Fin 1000) :
    (outsAt0 m c t.val t.isLt : S512x1000.Idx → EReal) (ix2 r k)
      = kernelLogits (xOf m c) (memOf m c) (row t.val t.isLt r) k := by
  rw [running, h7]
  unfold kernelLogits
  rw [Finset.sum_range]
  exact Finset.sum_congr rfl fun s _ => by
    rw [show (Fin.ofNat 8 s.val : Fin 8) = s from Fin.ext (Nat.mod_eq_of_lt s.isLt)]

/-! ## The whole array -/

/-- The result array: the kernel's logits of every query and class. -/
def result (c : Dev nD) : S4096x1000.Idx → EReal := fun i => kernelLogits (xOf m c) (memOf m c) (i 0) (i 1)

/-- After the run the result array holds `result`. -/
theorem final (c : Dev nD) : (dats m 0 c).arrAt 2 cfg0.N = result m c := by
  refine (dats m 0 c).arrAt_eq_of_covers 2 _ (by decide +kernel) fun t hf y => ?_
  have h7 : t.val % 8 = 7 := (flush0_2 t).mp hf
  blk_simp
  rw [after0_2]
  have hy : (y : S512x1000.Idx) = ix2 (n0 := 512) (n1 := 1000) (y 0) (y 1) := eq_ix2 y
  refine ((congrArg (outsAt0 m c t.val t.isLt : S512x1000.Idx → EReal) hy).trans (last m c t h7 (y 0) (y 1))).trans ?_
  unfold result
  refine congrArg₂ (kernelLogits (xOf m c) (memOf m c)) (Fin.ext ?_) (Fin.ext ?_)
  · blk_simp
    rw [(index_out t).1]
    show 512 * (t.val / 8) + (y 0).val = t.val / 8 * 512 + (y 0).val
    omega
  · blk_simp
    rw [(index_out t).2]
    omega

/-- The run: the result array ends at `result` and the two arguments are as launched. -/
theorem run (ρ : Dev nD → PrngReg) : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Array

end
-- ==== Proof.RefValue.lean ====
/-
  What the reference computes: at query `b` and class `k`, twice the sum over the shots of `exp(−5·(1 − a))`.
-/
module

public import proofs.«01_k».proof.Proof.Logits
public import proofs.«01_k».proof.Proof.Gen.ReferenceIdeal.Read

@[expose] public section

set_option maxRecDepth 16384

noncomputable section

namespace Cert.ReferenceIdeal.Formula

open Cert.ReferenceIdeal Cert.ReferenceIdeal.Gen Cert.ReferenceIdeal.Read Cert.Logits
open Idealize.ShloMosaic Idealize.ShloMosaic.ValueIdx

variable (x : (⟨S4096x1024, .f32⟩ : BufTy).Contents (Elt Ideal)) (mem : (⟨S1000x8x1024, .f32⟩ : BufTy).Contents (Elt Ideal))

/-- The reference's affinity array, at query `b`, class `k` and shot `s`. -/
theorem affinities_apply (b : Fin 4096) (k : Fin 1000) (s : Fin 8) :
    val_main_v2 (F := Ideal) x mem (ix3 b k s) = affinity x mem b k s := by
  rw [val_main_v2_apply, val_main_v1_apply]
  unfold affinity
  refine Finset.sum_congr rfl fun d _ => ?_
  rw [val_main_v0_apply, mul_comm]
  refine congrArg₂ (fun u v => x u * mem v) (funext fun a => ?_) (funext fun a => ?_)
  · match a with
    | ⟨0, _⟩ => rfl
    | ⟨1, _⟩ => rfl
  · match a with
    | ⟨0, _⟩ => rfl
    | ⟨1, _⟩ => rfl
    | ⟨2, _⟩ => rfl

/-- The reference's exponential, at query `b`, class `k` and shot `s`. -/
theorem exponential_apply (b : Fin 4096) (k : Fin 1000) (s : Fin 8) :
    val_main_v7 (F := Ideal) x mem (ix3 b k s) = plain (affinity x mem b k s) := by
  rw [val_main_v7_apply, val_main_v6_apply, val_main_v5_apply, val_main_cst_0_apply, val_main_v4_apply, val_main_v3_apply,
    val_main_cst_apply, affinities_apply]
  show Ideal.exp (Ideal.ofBits .f32 0xC0A00000#32 * (Ideal.ofBits .f32 0x3F800000#32 - _)) = _
  rw [word_neg_five, word_one]
  rfl

/-- The reference's result at query `b` and class `k` is the formula's logit. -/
theorem result_apply (b : Fin 4096) (k : Fin 1000) :
    val_main_v10 (F := Ideal) x mem (ix2 b k) = formulaLogits x mem b k := by
  rw [val_main_v10_apply, val_main_v9_apply, val_main_cst_2_apply, val_main_v8_apply, val_main_cst_1_apply]
  show Ideal.ofBits .f32 0x40000000#32 * (Ideal.ofBits .f32 0x00000000#32 + _) = _
  rw [word_two, Ideal.ofBits_zero_f32, zero_add]
  unfold formulaLogits
  refine congrArg (2 * ·) (Finset.sum_congr rfl fun s _ => ?_)
  refine Eq.trans (congrArg _ (funext fun a => ?_)) (exponential_apply x mem b k s)
  match a with
  | ⟨0, _⟩ => rfl
  | ⟨1, _⟩ => rfl
  | ⟨2, _⟩ => rfl

end Cert.ReferenceIdeal.Formula

end
-- ==== Proof.lean ====
/-
  The certificate's proof: its modules' theorems, one per claim.

  `Proof/Logits.lean` is the mathematics (both forms of the logits and their equality), `Proof/Block.lean` what the kernel's
  body leaves at one grid point, `Proof/Array.lean` what the kernel's result array holds after the run, `Proof/RefValue.lean`
  what the reference computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Read
public import proofs.«01_k».proof.Proof.Gen.ReferenceIdeal.Run
public import proofs.«01_k».proof.Proof.Array
public import proofs.«01_k».proof.Proof.RefValue
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel runs, leaves its arguments as they were and ends with every semaphore at zero. -/
theorem kernel_frame : Cert.quiescent_Kernel (hKernel := Cert.Kernel.Gen.facts) :=
  fun m ρ _ => Cert.Kernel.Gen.frame m ρ

/-- So does its idealization. -/
theorem ideal_frame : Cert.quiescent_KernelIdeal (hKernelIdeal := Cert.KernelIdeal.Gen.facts) :=
  fun m ρ _ => Cert.KernelIdeal.Gen.frame m ρ

/-- So does the reference, which has no semaphore. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The one constant the idealization names, the rounded log 2, is named log 2. -/
theorem constant_named : Cert.preserves_Kernel_KernelIdeal :=
  IdealRules.named_const.statement Cert.KernelIdeal.κ "log_alpha" .f32 0x3F317218#32 ((Real.log 2 : ℝ) : EReal) rfl

/-- The reference's result array, as a function of the queries and keys, is what the kernel's array ends holding. -/
theorem results_agree (m : (ℓ : Loc Cert.KernelIdeal.nD Cert.KernelIdeal.τ Cert.KernelIdeal.sig) → Buf (Elt Ideal) ℓ)
    (c : Dev Cert.KernelIdeal.nD) :
    Cert.ReferenceIdeal.Read.val_main_v10 (F := Ideal) (Cert.KernelIdeal.Array.xOf m c) (Cert.KernelIdeal.Array.memOf m c)
      = Cert.KernelIdeal.Array.result m c := by
  funext i
  refine (congrArg _ (ValueIdx.eq_ix2 (n0 := 4096) (n1 := 1000) i)).trans ?_
  refine (Cert.ReferenceIdeal.Formula.result_apply _ _ (i 0) (i 1)).trans ?_
  exact (Cert.Logits.kernelLogits_eq _ _ _ _).symm

/-- From memories that agree on the queries and keys, the idealized kernel and the reference end with equal logits. -/
theorem kernel_computes_reference :
    Cert.algebraic_KernelIdeal_ReferenceIdeal (hKernelIdeal := Cert.KernelIdeal.Gen.facts)
      (hReferenceIdeal := Cert.ReferenceIdeal.Gen.facts) := by
  intro m ρ m' ρ' _ hagree
  refine ⟨fun c => Cert.KernelIdeal.Array.result m c, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v10_eq (F := Ideal) _ _).trans (results_agree m c)

/-- Every claim of the certificate. -/
theorem claim : Cert.Claim :=
  ⟨Cert.Kernel.Gen.facts, Cert.KernelIdeal.Gen.facts, Cert.ReferenceIdeal.Gen.facts,
    kernel_frame, ideal_frame, reference_frame, constant_named, kernel_computes_reference⟩

end Cert.Proof

end
